-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S20000x128 : Shape := ⟨2, ![20000, 128]⟩
abbrev S20000x384 : Shape := ⟨2, ![20000, 384]⟩
abbrev S128x81 : Shape := ⟨2, ![128, 81]⟩
abbrev S_ : Shape := ⟨0, ![]⟩
abbrev S384x320 : Shape := ⟨2, ![384, 320]⟩
abbrev S20000x81 : Shape := ⟨2, ![20000, 81]⟩
abbrev S20000x320 : Shape := ⟨2, ![20000, 320]⟩
abbrev S4000x1024 : Shape := ⟨2, ![4000, 1024]⟩
abbrev S4000x128 : Shape := ⟨2, ![4000, 128]⟩
abbrev S4000x384 : Shape := ⟨2, ![4000, 384]⟩
abbrev S4000x81 : Shape := ⟨2, ![4000, 81]⟩
abbrev S1x81 : Shape := ⟨2, ![1, 81]⟩
abbrev S4000x320 : Shape := ⟨2, ![4000, 320]⟩
abbrev S1x320 : Shape := ⟨2, ![1, 320]⟩
abbrev S4000x47 : Shape := ⟨2, ![4000, 47]⟩
abbrev S4000x64 : Shape := ⟨2, ![4000, 64]⟩

abbrev nBuf : Space → Nat
  | .hbm => 23
  | .vmem => 10
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S20000x128, .bf16⟩
  | .hbm, ⟨6, _⟩ => ⟨S20000x384, .bf16⟩
  | .hbm, ⟨7, _⟩ => ⟨S128x81, .i32⟩
  | .hbm, ⟨8, _⟩ => ⟨S128x81, .i32⟩
  | .hbm, ⟨9, _⟩ => ⟨S_, .i32⟩
  | .hbm, ⟨10, _⟩ => ⟨S128x81, .i32⟩
  | .hbm, ⟨11, _⟩ => ⟨S128x81, .i32⟩
  | .hbm, ⟨12, _⟩ => ⟨S128x81, .i1⟩
  | .hbm, ⟨13, _⟩ => ⟨S128x81, .bf16⟩
  | .hbm, ⟨14, _⟩ => ⟨S384x320, .i32⟩
  | .hbm, ⟨15, _⟩ => ⟨S384x320, .i32⟩
  | .hbm, ⟨16, _⟩ => ⟨S_, .i32⟩
  | .hbm, ⟨17, _⟩ => ⟨S384x320, .i32⟩
  | .hbm, ⟨18, _⟩ => ⟨S384x320, .i32⟩
  | .hbm, ⟨19, _⟩ => ⟨S384x320, .i1⟩
  | .hbm, ⟨20, _⟩ => ⟨S384x320, .bf16⟩
  | .hbm, ⟨21, _⟩ => ⟨S20000x81, .f32⟩
  | .hbm, ⟨22, _⟩ => ⟨S20000x320, .f32⟩
  | .local _ .vmem, ⟨0, _⟩ => ⟨S4000x1024, .f32⟩
  | .local _ .vmem, ⟨1, _⟩ => ⟨S4000x1024, .f32⟩
  | .local _ .vmem, ⟨2, _⟩ => ⟨S81x1024, .f32⟩
  | .local _ .vmem, ⟨3, _⟩ => ⟨S81, .f32⟩
  | .local _ .vmem, ⟨4, _⟩ => ⟨S320x1024, .f32⟩
  | .local _ .vmem, ⟨5, _⟩ => ⟨S320, .f32⟩
  | .local _ .vmem, ⟨6, _⟩ => ⟨S4000x128, .bf16⟩
  | .local _ .vmem, ⟨7, _⟩ => ⟨S4000x128, .bf16⟩
  | .local _ .vmem, ⟨8, _⟩ => ⟨S4000x384, .bf16⟩
  | .local _ .vmem, ⟨9, _⟩ => ⟨S4000x384, .bf16⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0_0 : Ref sig .tc := ⟨.hbm, 5, rfl⟩
abbrev main_call0_v0_1 : Ref sig .tc := ⟨.hbm, 6, rfl⟩
abbrev main_call0_v1 : Ref sig .tc := ⟨.hbm, 7, rfl⟩
abbrev main_call0_v2 : Ref sig .tc := ⟨.hbm, 8, rfl⟩
abbrev main_call0_c : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c_0 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_v0_0 : Ref sig .tc := ⟨.hbm, 21, rfl⟩
abbrev main_v0_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S1024x81 : Shape := ⟨2, ![1024, 81]⟩
abbrev S20000x81 : Shape := ⟨2, ![20000, 81]⟩
abbrev S1x81 : Shape := ⟨2, ![1, 81]⟩
abbrev S1024x320 : Shape := ⟨2, ![1024, 320]⟩
abbrev S20000x320 : Shape := ⟨2, ![20000, 320]⟩
abbrev S1x320 : Shape := ⟨2, ![1, 320]⟩

abbrev nBuf : Space → Nat
  | .hbm => 15
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S1024x81, .f32⟩
  | .hbm, ⟨6, _⟩ => ⟨S20000x81, .f32⟩
  | .hbm, ⟨7, _⟩ => ⟨S1x81, .f32⟩
  | .hbm, ⟨8, _⟩ => ⟨S20000x81, .f32⟩
  | .hbm, ⟨9, _⟩ => ⟨S20000x81, .f32⟩
  | .hbm, ⟨10, _⟩ => ⟨S1024x320, .f32⟩
  | .hbm, ⟨11, _⟩ => ⟨S20000x320, .f32⟩
  | .hbm, ⟨12, _⟩ => ⟨S1x320, .f32⟩
  | .hbm, ⟨13, _⟩ => ⟨S20000x320, .f32⟩
  | .hbm, ⟨14, _⟩ => ⟨S20000x320, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Payload.lean ====
/- What the kernel computes for one block of rows, on the extended reals, read at an index: one matrix product with
   the weights' transpose, plus the bias, in the columns that the head has, and zero in the columns added to reach a
   multiple of 128. -/
module

public import proofs.«01_k».proof.Proof.Gen.KernelIdeal.Skeleton
public import Idealize.ShloMosaic.Lib.Pointwise

@[expose] public section

noncomputable section

namespace Cert.KernelIdeal.Heads

open Idealize.ShloMosaic Cert.KernelIdeal Cert.KernelIdeal.Gen
open scoped BigOperators

/-- One linear head at row `r` and output column `j`: row `r` of `x` times row `j` of the weights, plus the bias at `j`. -/
def lin {m n k : Nat} (x : (⟨2, ![m, k]⟩ : Shape).Idx → EReal) (w : (⟨2, ![n, k]⟩ : Shape).Idx → EReal)
    (b : (⟨1, ![n]⟩ : Shape).Idx → EReal) (r : Fin m) (j : Fin n) : EReal :=
  (∑ l : Fin k, x (ix2 r l) * w (ix2 j l)) + b (ix1 j)

/-- The head with zero columns added on the right: the head in its own `n` columns, zero from column `n` on. -/
def padLin {m n k : Nat} (x : (⟨2, ![m, k]⟩ : Shape).Idx → EReal) (w : (⟨2, ![n, k]⟩ : Shape).Idx → EReal)
    (b : (⟨1, ![n]⟩ : Shape).Idx → EReal) (r : Fin m) (c : Nat) : EReal :=
  if h : c < n then lin x w b r ⟨c, h⟩ else 0

/-- In a column that the head has, the padded head is the head. -/
theorem padLin_of_lt {m n k : Nat} (x : (⟨2, ![m, k]⟩ : Shape).Idx → EReal) (w : (⟨2, ![n, k]⟩ : Shape).Idx → EReal)
    (b : (⟨1, ![n]⟩ : Shape).Idx → EReal) (r : Fin m) (j : Fin n) : padLin x w b r j.val = lin x w b r j :=
  dif_pos j.isLt

/-- The padded head at a row depends on that row of `x` only: two inputs whose rows `r` and `r'` agree give the same
    value there. -/
theorem padLin_congr_row {m m' n k : Nat} (x : (⟨2, ![m, k]⟩ : Shape).Idx → EReal) (x' : (⟨2, ![m', k]⟩ : Shape).Idx → EReal)
    (w : (⟨2, ![n, k]⟩ : Shape).Idx → EReal) (b : (⟨1, ![n]⟩ : Shape).Idx → EReal) (r : Fin m) (r' : Fin m') (c : Nat)
    (h : ∀ l : Fin k, x (ix2 r l) = x' (ix2 r' l)) : padLin x w b r c = padLin x' w b r' c := by
  unfold padLin lin
  simp only [h]

/-- The integer zero read as an extended real is zero. -/
theorem int_zero_cast : (((0#32 : BitVec 32).toInt : ℝ) : EReal) = 0 := by simp

/-- The class head's block is the padded class head of the block's rows. -/
theorem pay1_apply (x : FVec Ideal S4000x1024 .f32) (w : FVec Ideal S81x1024 .f32) (b : FVec Ideal S81 .f32)
    (r : Fin 4000) (c : Fin 128) : k0_pay1 (F := Ideal) x w b (ix2 r c) = padLin x w b r c.val := by
  pointwise [k0_pay1, padLin, lin]
  rw [int_zero_cast]

/-- The box head's block is the padded box head of the block's rows. -/
theorem pay2_apply (x : FVec Ideal S4000x1024 .f32) (w : FVec Ideal S320x1024 .f32) (b : FVec Ideal S320 .f32)
    (r : Fin 4000) (c : Fin 384) : k0_pay2 (F := Ideal) x w b (ix2 r c) = padLin x w b r c.val := by
  pointwise [k0_pay2, padLin, lin]
  rw [int_zero_cast]

end Cert.KernelIdeal.Heads

end
-- ==== Proof.Blocks.lean ====
/- The kernel's two padded arrays after the last grid point, on the extended reals: every point writes back 4000 rows of
   one padded linear head of the arguments, and the five points' rows are all 20000 rows. -/
module

public import proofs.«01_k».proof.Proof.Payload
public import proofs.«01_k».proof.Proof.Gen.KernelIdeal.Frame
public import Idealize.ShloMosaic.Lib.Pipeline.Value

@[expose] public section

set_option maxRecDepth 16384

noncomputable section

namespace Cert.KernelIdeal.Heads

open Idealize.ShloMosaic Idealize.ShloMosaic.TcCoe Cert.KernelIdeal Cert.KernelIdeal.Gen
open Idealize.ShloMosaic.Pipeline (Dat)

variable (m : (ℓ : Loc nD τ sig) → Buf (Elt Ideal) ℓ)

/-! ## The arguments, named -/

/-- The features, 20000 rows of 1024. -/
abbrev argX (c : Dev nD) : FVec Ideal S20000x1024 .f32 := m ((c : Thread nD τ).loc main_arg0)
/-- The class weights, 81 rows of 1024. -/
abbrev argWc (c : Dev nD) : FVec Ideal S81x1024 .f32 := m ((c : Thread nD τ).loc main_arg1)
/-- The class bias. -/
abbrev argBc (c : Dev nD) : FVec Ideal S81 .f32 := m ((c : Thread nD τ).loc main_arg2)
/-- The box weights, 320 rows of 1024. -/
abbrev argWb (c : Dev nD) : FVec Ideal S320x1024 .f32 := m ((c : Thread nD τ).loc main_arg3)
/-- The box bias. -/
abbrev argBb (c : Dev nD) : FVec Ideal S320 .f32 := m ((c : Thread nD τ).loc main_arg4)

/-! ## Where the blocks lie -/

/-- Where each window stands at point `t`: the features and both results at row block `t`, everything else at its start. -/
theorem index_facts (t : Fin grid0.N) : (win0_0.index t 0 = t.val ∧ win0_0.index t 1 = 0)
    ∧ (win0_1.index t 0 = 0 ∧ win0_1.index t 1 = 0) ∧ win0_2.index t 0 = 0
    ∧ (win0_3.index t 0 = 0 ∧ win0_3.index t 1 = 0) ∧ win0_4.index t 0 = 0
    ∧ (win0_5.index t 0 = t.val ∧ win0_5.index t 1 = 0) ∧ (win0_6.index t 0 = t.val ∧ win0_6.index t 1 = 0) := by
  rcases fin_N0 t with rfl | rfl | rfl | rfl | rfl <;> decide +kernel

/-- Row `r` of block `t` as a row of the whole array. -/
def row (t : Fin grid0.N) (r : Fin 4000) : Fin 20000 :=
  ⟨t.val * 4000 + r.val, by have := t.isLt; have := N_0; omega⟩

/-- Row `r` of the features' block at point `t` is row `4000 t + r` of the features. -/
theorem blockX (c : Dev nD) (t : Fin cfg0.N) (r : Fin 4000) (l : Fin 1024) :
    (iblk m c 0 t : Vec Ideal S4000x1024 .f32) (ix2 r l) = argX m c (ix2 (row t r) l) := by
  have hi := (index_facts t).1
  unfold iblk
  rw [View.read_apply]
  refine congrArg (argX m c) (funext fun a => Fin.ext ?_)
  match a with
  | ⟨0, _⟩ => show win0_0.index t 0 * 4000 + 1 * r.val = t.val * 4000 + r.val; rw [hi.1]; omega
  | ⟨1, _⟩ => show win0_0.index t 1 * 1024 + 1 * l.val = l.val; rw [hi.2]; omega

/-- The class weights' block is the whole matrix at every point. -/
theorem blockWc (c : Dev nD) (t : Fin cfg0.N) : (iblk m c 1 t : Vec Ideal S81x1024 .f32) = argWc m c := by
  have hi := (index_facts t).2.1
  funext j
  unfold iblk
  rw [View.read_apply]
  refine congrArg (argWc m c) (funext fun a => Fin.ext ?_)
  match a with
  | ⟨0, _⟩ => show win0_1.index t 0 * 81 + 1 * (j 0).val = (j 0).val; rw [hi.1]; omega
  | ⟨1, _⟩ => show win0_1.index t 1 * 1024 + 1 * (j 1).val = (j 1).val; rw [hi.2]; omega

/-- The class bias's block is the whole bias at every point. -/
theorem blockBc (c : Dev nD) (t : Fin cfg0.N) : (iblk m c 2 t : Vec Ideal S81 .f32) = argBc m c := by
  have hi := (index_facts t).2.2.1
  funext j
  unfold iblk
  rw [View.read_apply]
  refine congrArg (argBc m c) (funext fun a => Fin.ext ?_)
  match a with
  | ⟨0, _⟩ => show win0_2.index t 0 * 81 + 1 * (j 0).val = (j 0).val; rw [hi]; omega

/-- The box weights' block is the whole matrix at every point. -/
theorem blockWb (c : Dev nD) (t : Fin cfg0.N) : (iblk m c 3 t : Vec Ideal S320x1024 .f32) = argWb m c := by
  have hi := (index_facts t).2.2.2.1
  funext j
  unfold iblk
  rw [View.read_apply]
  refine congrArg (argWb m c) (funext fun a => Fin.ext ?_)
  match a with
  | ⟨0, _⟩ => show win0_3.index t 0 * 320 + 1 * (j 0).val = (j 0).val; rw [hi.1]; omega
  | ⟨1, _⟩ => show win0_3.index t 1 * 1024 + 1 * (j 1).val = (j 1).val; rw [hi.2]; omega

/-- The box bias's block is the whole bias at every point. -/
theorem blockBb (c : Dev nD) (t : Fin cfg0.N) : (iblk m c 4 t : Vec Ideal S320 .f32) = argBb m c := by
  have hi := (index_facts t).2.2.2.2.1
  funext j
  unfold iblk
  rw [View.read_apply]
  refine congrArg (argBb m c) (funext fun a => Fin.ext ?_)
  match a with
  | ⟨0, _⟩ => show win0_4.index t 0 * 320 + 1 * (j 0).val = (j 0).val; rw [hi]; omega

/-! ## The padded arrays -/

/-- The padded class array: the class head of the arguments in columns 0 to 80, zero from column 81 on. -/
def padCls (c : Dev nD) : FVec Ideal S20000x128 .bf16 := fun i => padLin (argX m c) (argWc m c) (argBc m c) (i 0) (i 1).val
/-- The padded box array: the box head of the arguments in columns 0 to 319, zero from column 320 on. -/
def padBox (c : Dev nD) : FVec Ideal S20000x384 .bf16 := fun i => padLin (argX m c) (argWb m c) (argBb m c) (i 0) (i 1).val

/-- A rectangle's start at zero in both coordinates. -/
theorem start2 : (![0, 0] : Fin 2 → Nat) = fun _ => 0 := by funext a; fin_cases a <;> rfl
/-- A rectangle's start at zero in its one coordinate. -/
theorem start1 : (![0] : Fin 1 → Nat) = fun _ => 0 := by funext a; fin_cases a; rfl

/-- The body's class block at point `t`, at row `r` and column `q`, is the padded class array at row `4000 t + r`. -/
theorem out5_apply (c : Dev nD) (t : Fin cfg0.N) (r : Fin 4000) (q : Fin 128) :
    out0_5 (iblk m c 0 t) (iblk m c 1 t) (iblk m c 2 t) (iblk m c 3 t) (iblk m c 4 t) (ix2 r q)
      = padCls m c (ix2 (row t r) q) := by
  unfold out0_5
  rw [View.canon_unit_zero start2, View.ld_unit_zero start2, View.ld_unit_zero start2, View.ld_unit_zero start1]
  refine (pay1_apply _ _ _ r q).trans ?_
  rw [blockWc, blockBc]
  exact padLin_congr_row _ (argX m c) _ _ r (row t r) q.val fun l => blockX m c t r l

/-- The body's box block at point `t`, at row `r` and column `q`, is the padded box array at row `4000 t + r`. -/
theorem out6_apply (c : Dev nD) (t : Fin cfg0.N) (r : Fin 4000) (q : Fin 384) :
    out0_6 (iblk m c 0 t) (iblk m c 1 t) (iblk m c 2 t) (iblk m c 3 t) (iblk m c 4 t) (ix2 r q)
      = padBox m c (ix2 (row t r) q) := by
  unfold out0_6
  rw [View.canon_unit_zero start2, View.ld_unit_zero start2, View.ld_unit_zero start2, View.ld_unit_zero start1]
  refine (pay2_apply _ _ _ r q).trans ?_
  rw [blockWb, blockBb]
  exact padLin_congr_row _ (argX m c) _ _ r (row t r) q.val fun l => blockX m c t r l

/-- What point `t` writes back of the class array is that point's rows of the padded class array. -/
theorem flushed5 (c : Dev nD) (t : Fin cfg0.N) :
    (dats m 0 c).flushed 5 t = ((cfg0.win 5).blk t).view.read (Elt Ideal) (padCls m c) := by
  have hi := (index_facts t).2.2.2.2.2.1
  show (cfg0.win 5).cut (grid0.coords t) ((dats m 0 c).after 5 t) = _
  rw [after0_5]
  funext y
  rw [View.read_apply]
  have hy : (y : S4000x128.Idx) = ix2 (y 0) (y 1) := eq_ix2 y
  show out0_5 (iblk m c 0 t) (iblk m c 1 t) (iblk m c 2 t) (iblk m c 3 t) (iblk m c 4 t) y = _
  refine (congrArg _ hy).trans ((out5_apply m c t (y 0) (y 1)).trans (congrArg (padCls m c) (funext fun a => Fin.ext ?_)))
  match a with
  | ⟨0, _⟩ => show t.val * 4000 + (y 0).val = win0_5.index t 0 * 4000 + 1 * (y 0).val; rw [hi.1]; omega
  | ⟨1, _⟩ => show (y 1).val = win0_5.index t 1 * 128 + 1 * (y 1).val; rw [hi.2]; omega

/-- What point `t` writes back of the box array is that point's rows of the padded box array. -/
theorem flushed6 (c : Dev nD) (t : Fin cfg0.N) :
    (dats m 0 c).flushed 6 t = ((cfg0.win 6).blk t).view.read (Elt Ideal) (padBox m c) := by
  have hi := (index_facts t).2.2.2.2.2.2
  show (cfg0.win 6).cut (grid0.coords t) ((dats m 0 c).after 6 t) = _
  rw [after0_6]
  funext y
  rw [View.read_apply]
  have hy : (y : S4000x384.Idx) = ix2 (y 0) (y 1) := eq_ix2 y
  show out0_6 (iblk m c 0 t) (iblk m c 1 t) (iblk m c 2 t) (iblk m c 3 t) (iblk m c 4 t) y = _
  refine (congrArg _ hy).trans ((out6_apply m c t (y 0) (y 1)).trans (congrArg (padBox m c) (funext fun a => Fin.ext ?_)))
  match a with
  | ⟨0, _⟩ => show t.val * 4000 + (y 0).val = win0_6.index t 0 * 4000 + 1 * (y 0).val; rw [hi.1]; omega
  | ⟨1, _⟩ => show (y 1).val = win0_6.index t 1 * 384 + 1 * (y 1).val; rw [hi.2]; omega

/-- The point whose block holds row `r`. -/
def pointOf (r : Fin 20000) : Fin grid0.N := ⟨r.val / 4000, by rw [N_0]; have := r.isLt; omega⟩

/-- Every index of the padded class array lies in the block of the point that its row belongs to. -/
theorem cover5 (i : S20000x128.Idx) : i ∈ ((cfg0.win 5).blk (pointOf (i 0))).view.set := by
  have hi := (index_facts (pointOf (i 0))).2.2.2.2.2.1
  have h0 : (i 0).val < 20000 := (i 0).isLt
  have h1 : (i 1).val < 128 := (i 1).isLt
  have hp : (pointOf (i 0)).val = (i 0).val / 4000 := rfl
  show i ∈ ((View.whole main_call0_v0_0).slice (win0_5.rect (pointOf (i 0)))).set
  rw [View.set_slice_whole, Rect.mem_set_unit]
  intro a
  match a with
  | ⟨0, _⟩ => show win0_5.index (pointOf (i 0)) 0 * 4000 ≤ (i 0).val ∧ (i 0).val < win0_5.index (pointOf (i 0)) 0 * 4000 + 4000
              rw [hi.1, hp]; omega
  | ⟨1, _⟩ => show win0_5.index (pointOf (i 0)) 1 * 128 ≤ (i 1).val ∧ (i 1).val < win0_5.index (pointOf (i 0)) 1 * 128 + 128
              rw [hi.2]; omega

/-- Every index of the padded box array lies in the block of the point that its row belongs to. -/
theorem cover6 (i : S20000x384.Idx) : i ∈ ((cfg0.win 6).blk (pointOf (i 0))).view.set := by
  have hi := (index_facts (pointOf (i 0))).2.2.2.2.2.2
  have h0 : (i 0).val < 20000 := (i 0).isLt
  have h1 : (i 1).val < 384 := (i 1).isLt
  have hp : (pointOf (i 0)).val = (i 0).val / 4000 := rfl
  show i ∈ ((View.whole main_call0_v0_1).slice (win0_6.rect (pointOf (i 0)))).set
  rw [View.set_slice_whole, Rect.mem_set_unit]
  intro a
  match a with
  | ⟨0, _⟩ => show win0_6.index (pointOf (i 0)) 0 * 4000 ≤ (i 0).val ∧ (i 0).val < win0_6.index (pointOf (i 0)) 0 * 4000 + 4000
              rw [hi.1, hp]; omega
  | ⟨1, _⟩ => show win0_6.index (pointOf (i 0)) 1 * 384 ≤ (i 1).val ∧ (i 1).val < win0_6.index (pointOf (i 0)) 1 * 384 + 384
              rw [hi.2]; omega

/-- The kernel leaves the padded class head of the arguments in its first array. -/
theorem final5 (c : Dev nD) : (dats m 0 c).arrAt 5 cfg0.N = padCls m c :=
  (dats m 0 c).arrAt_eq_of_cover 5 (padCls m c) (fun t _ => flushed5 m c t) fun i => ⟨pointOf (i 0), flush0_5 _, cover5 i⟩

/-- The kernel leaves the padded box head of the arguments in its second array. -/
theorem final6 (c : Dev nD) : (dats m 0 c).arrAt 6 cfg0.N = padBox m c :=
  (dats m 0 c).arrAt_eq_of_cover 6 (padBox m c) (fun t _ => flushed6 m c t) fun i => ⟨pointOf (i 0), flush0_6 _, cover6 i⟩

end Cert.KernelIdeal.Heads

end
-- ==== Proof.Tail.lean ====
/- The two products that the program takes after the kernel, on the extended reals: each multiplies a padded array by
   a matrix with ones on its diagonal, which keeps the first columns. -/
module

public import proofs.«01_k».proof.Proof.Gen.KernelIdeal.Frame
public import Idealize.ShloMosaic.Lib.Pointwise

@[expose] public section

set_option maxRecDepth 16384

noncomputable section

namespace Cert.KernelIdeal.Heads

open Idealize.ShloMosaic Idealize.ShloMosaic.TcCoe Cert.KernelIdeal Cert.KernelIdeal.Gen
open scoped BigOperators

/-- The 128 x 81 matrix of ones on the diagonal, as the program builds it. -/
def eyeCls : FVec Ideal S128x81 .bf16 :=
  uitofp .bf16 (cmpi .eq (addi (iotaInDim S128x81 32 0) (broadcastInDim S128x81 ![] bcast_S_S128x81 (constantI S_ 32 0#32)))
    (iotaInDim S128x81 32 1))

/-- The 384 x 320 matrix of ones on the diagonal, as the program builds it. -/
def eyeBox : FVec Ideal S384x320 .bf16 :=
  uitofp .bf16 (cmpi .eq (addi (iotaInDim S384x320 32 0) (broadcastInDim S384x320 ![] bcast_S_S384x320 (constantI S_ 32 0#32)))
    (iotaInDim S384x320 32 1))

/-- The comparison of two small numbers as 32-bit words, read as a number: one where they are equal, zero elsewhere. -/
theorem eq_word (k j : Nat) (hk : k < 4294967296) (hj : j < 4294967296) :
    (FloatOps.uitofp (F := Ideal) .bf16 (IntOp.cmpi .eq (IntOp.addi (BitVec.ofNat 32 k) 0#32) (BitVec.ofNat 32 j)) : EReal)
      = if k = j then 1 else 0 := by
  have e : (BitVec.ofNat 32 k + 0#32 = BitVec.ofNat 32 j) ↔ k = j := by
    rw [BitVec.add_zero, ← BitVec.toNat_inj, BitVec.toNat_ofNat, BitVec.toNat_ofNat, Nat.mod_eq_of_lt hk, Nat.mod_eq_of_lt hj]
  show (((IntOp.cmpi .eq (IntOp.addi (BitVec.ofNat 32 k) 0#32) (BitVec.ofNat 32 j)).toNat : ℝ) : EReal) = _
  by_cases h : k = j
  · rw [if_pos h]
    simp [IntOp.cmpi, IntOp.addi, h]
  · have h' : ¬ BitVec.ofNat 32 k = BitVec.ofNat 32 j := fun g => h (e.mp (by rw [BitVec.add_zero]; exact g))
    rw [if_neg h]
    simp [IntOp.cmpi, IntOp.addi, h']

/-- The first matrix has one where row and column agree, zero elsewhere. -/
theorem eyeCls_apply (k : Fin 128) (j : Fin 81) : (eyeCls (ix2 k j) : EReal) = if k.val = j.val then 1 else 0 := by
  pointwise [eyeCls]
  exact eq_word k.val j.val (by omega) (by omega)

/-- The second matrix has one where row and column agree, zero elsewhere. -/
theorem eyeBox_apply (k : Fin 384) (j : Fin 320) : (eyeBox (ix2 k j) : EReal) = if k.val = j.val then 1 else 0 := by
  pointwise [eyeBox]
  exact eq_word k.val j.val (by omega) (by omega)

/-- A row of extended reals summed against a column that is one at one position and zero elsewhere is the row's entry
    at that position, whatever the other entries are. -/
theorem sum_pick {n : Nat} (a e : Fin n → EReal) (j : Fin n) (he : ∀ k, e k = if k.val = j.val then 1 else 0) :
    ∑ k, a k * e k = a j := by
  rw [Finset.sum_eq_single j (fun k _ hk => ?_) (fun h => absurd (Finset.mem_univ j) h), he j, if_pos rfl, mul_one]
  rw [he k, if_neg (fun h => hk (Fin.ext h)), mul_zero]

/-- The first product keeps columns 0 to 80 of its array. -/
theorem keepCls (a : FVec Ideal S20000x128 .bf16) (r : Fin 20000) (j : Fin 81) :
    Host.dotGeneral dot_S20000x128_S128x81_S20000x81_1_0_0_1_n_n none a eyeCls (ix2 r j) = a (ix2 r ⟨j.val, by omega⟩) := by
  pointwise []
  exact sum_pick (fun k => a (ix2 r k)) (fun k => eyeCls (ix2 k j)) ⟨j.val, by omega⟩ fun k => eyeCls_apply k j

/-- The second product keeps columns 0 to 319 of its array. -/
theorem keepBox (a : FVec Ideal S20000x384 .bf16) (r : Fin 20000) (j : Fin 320) :
    Host.dotGeneral dot_S20000x384_S384x320_S20000x320_1_0_0_1_n_n none a eyeBox (ix2 r j) = a (ix2 r ⟨j.val, by omega⟩) := by
  pointwise []
  exact sum_pick (fun k => a (ix2 r k)) (fun k => eyeBox (ix2 k j)) ⟨j.val, by omega⟩ fun k => eyeBox_apply k j

variable (m : (ℓ : Loc nD τ sig) → Buf (Elt Ideal) ℓ)

/-- After the last line the first result is the first product, taken of the array that the kernel leaves in its first
    output. -/
theorem tail0 (c : Dev nD) : Pipeline.afterTail₀ cfgs (dats m) 0 (V0 m) [hostOps1] c main_v0_0
    = Host.dotGeneral (φ₁ := .bf16) dot_S20000x128_S128x81_S20000x81_1_0_0_1_n_n none
        ((dats m 0 c).arrAt 5 cfg0.N : FVec Ideal S20000x128 .bf16) eyeCls := by
  have e := Pipeline.withArrays_arr spec0 launch0.win.arr_inj c (V0 m c) (fun w => (dats m 0 c).arrAt w cfg0.N) 5
  unfold Pipeline.afterTail₀
  show StableHlo.after hostOps1 _ _ = _
  after_results
  exact congrArg (fun a : FVec Ideal S20000x128 .bf16 =>
    Host.dotGeneral dot_S20000x128_S128x81_S20000x81_1_0_0_1_n_n none a eyeCls) e

/-- After the last line the second result is the second product, taken of the array that the kernel leaves in its
    second output. -/
theorem tail1 (c : Dev nD) : Pipeline.afterTail₀ cfgs (dats m) 0 (V0 m) [hostOps1] c main_v0_1
    = Host.dotGeneral (φ₁ := .bf16) dot_S20000x384_S384x320_S20000x320_1_0_0_1_n_n none
        ((dats m 0 c).arrAt 6 cfg0.N : FVec Ideal S20000x384 .bf16) eyeBox := by
  have e := Pipeline.withArrays_arr spec0 launch0.win.arr_inj c (V0 m c) (fun w => (dats m 0 c).arrAt w cfg0.N) 6
  unfold Pipeline.afterTail₀
  show StableHlo.after hostOps1 _ _ = _
  after_results
  exact congrArg (fun a : FVec Ideal S20000x384 .bf16 =>
    Host.dotGeneral dot_S20000x384_S384x320_S20000x320_1_0_0_1_n_n none a eyeBox) e

end Cert.KernelIdeal.Heads

end
-- ==== Proof.KernelRun.lean ====
/- The kernel's whole run on the extended reals: its two results are the two linear heads of its arguments, and the
   arguments end unchanged. -/
module

public import proofs.«01_k».proof.Proof.Blocks
public import proofs.«01_k».proof.Proof.Tail

@[expose] public section

set_option maxRecDepth 16384

noncomputable section

namespace Cert.KernelIdeal.Heads

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The class scores: the class head of the arguments at every row and class. -/
def scores (c : Dev nD) : FVec Ideal S20000x81 .f32 := fun i => lin (argX m c) (argWc m c) (argBc m c) (i 0) (i 1)
/-- The box deltas: the box head of the arguments at every row and box coordinate. -/
def deltas (c : Dev nD) : FVec Ideal S20000x320 .f32 := fun i => lin (argX m c) (argWb m c) (argBb m c) (i 0) (i 1)

/-- The first product of the padded class array is the class scores. -/
theorem product_scores (c : Dev nD) :
    Host.dotGeneral dot_S20000x128_S128x81_S20000x81_1_0_0_1_n_n none (padCls m c) eyeCls = scores m c := by
  funext i
  obtain ⟨r, j, rfl⟩ : ∃ (r : Fin 20000) (j : Fin 81), i = ix2 r j := ⟨i 0, i 1, eq_ix2 i⟩
  exact (keepCls (padCls m c) r j).trans (padLin_of_lt (argX m c) (argWc m c) (argBc m c) r j)

/-- The second product of the padded box array is the box deltas. -/
theorem product_deltas (c : Dev nD) :
    Host.dotGeneral dot_S20000x384_S384x320_S20000x320_1_0_0_1_n_n none (padBox m c) eyeBox = deltas m c := by
  funext i
  obtain ⟨r, j, rfl⟩ : ∃ (r : Fin 20000) (j : Fin 320), i = ix2 r j := ⟨i 0, i 1, eq_ix2 i⟩
  exact (keepBox (padBox m c) r j).trans (padLin_of_lt (argX m c) (argWb m c) (argBb m c) r j)

/-- After the last line the first result holds the class scores. -/
theorem result0 (c : Dev nD) : Pipeline.afterTail₀ cfgs (dats m) 0 (V0 m) [hostOps1] c main_v0_0 = scores m c := by
  rw [tail0, final5]
  exact product_scores m c

/-- After the last line the second result holds the box deltas. -/
theorem result1 (c : Dev nD) : Pipeline.afterTail₀ cfgs (dats m) 0 (V0 m) [hostOps1] c main_v0_1 = deltas m c := by
  rw [tail1, final6]
  exact product_deltas m c

/-- Every fair run of the kernel ends with the class scores and the box deltas in its two results and with its five
    arguments as they were. -/
theorem run : θ_run defs (onTc (τ := τ) (main (F := Ideal))) ⟨m, fun _ => 0, ρ⟩ fun r => ∀ c : Dev nD,
      r.2.mem ((c : Thread nD τ).loc main_v0_0) = scores m c
      ∧ r.2.mem ((c : Thread nD τ).loc main_v0_1) = deltas m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have keep (w : Fin cfg0.W) (hw : (cfg0.win w).isOut = false) (c : Dev nD) :
      (dats m 0 c).arrAt w cfg0.N = V m c (Pipeline.arrRef spec0 w) :=
    ((dats m 0 c).arrAt_in w hw _).trans (A_eq m c w)
  refine (θ_run defs _ _).mono (fun r h c => ?_) (run_main m ρ)
  have h0 : main_v0_0 ∈ Pipeline.restRefs sig spec0 := by decide
  have h1 : main_v0_1 ∈ Pipeline.restRefs sig spec0 := by decide
  exact ⟨((h c).2 main_v0_0 h0).trans (result0 m c), ((h c).2 main_v0_1 h1).trans (result1 m c),
    ((h c).1 0).trans (keep 0 rfl c), ((h c).1 1).trans (keep 1 rfl c), ((h c).1 2).trans (keep 2 rfl c),
    ((h c).1 3).trans (keep 3 rfl c), ((h c).1 4).trans (keep 4 rfl c)⟩

end Cert.KernelIdeal.Heads

end
-- ==== Proof.Reference.lean ====
/- The reference's two results on the extended reals, read at an index: the same two linear heads. -/
module

public import proofs.«01_k».proof.Proof.Payload
public import proofs.«01_k».proof.Proof.Gen.ReferenceIdeal.Run

@[expose] public section

noncomputable section

namespace Cert.ReferenceIdeal.Heads

open Idealize.ShloMosaic Cert.ReferenceIdeal Cert.ReferenceIdeal.Gen
open Cert.KernelIdeal.Heads (lin)

/-- The reference's scores are the class head of its arguments. -/
theorem scores_eq (x : FVec Ideal S20000x1024 .f32) (w : FVec Ideal S81x1024 .f32) (b : FVec Ideal S81 .f32) :
    addf (Host.dotGeneral dot_S20000x1024_S1024x81_S20000x81_1_0_0_1_n_n none x
        (transpose S1024x81 [1, 0] w transposes_S81x1024_S1024x81_1_0))
      (broadcastInDim S20000x81 ![0, 1] bcast_S1x81_S20000x81_0_1 (broadcastInDim S1x81 ![1] bcast_S81_S1x81_1 b))
      = fun i => lin x w b (i 0) (i 1) := by
  funext i
  obtain ⟨r, j, rfl⟩ : ∃ (r : Fin 20000) (j : Fin 81), i = ix2 r j := ⟨i 0, i 1, eq_ix2 i⟩
  pointwise [lin]

/-- The reference's deltas are the box head of its arguments. -/
theorem deltas_eq (x : FVec Ideal S20000x1024 .f32) (w : FVec Ideal S320x1024 .f32) (b : FVec Ideal S320 .f32) :
    addf (Host.dotGeneral dot_S20000x1024_S1024x320_S20000x320_1_0_0_1_n_n none x
        (transpose S1024x320 [1, 0] w transposes_S320x1024_S1024x320_1_0))
      (broadcastInDim S20000x320 ![0, 1] bcast_S1x320_S20000x320_0_1 (broadcastInDim S1x320 ![1] bcast_S320_S1x320_1 b))
      = fun i => lin x w b (i 0) (i 1) := by
  funext i
  obtain ⟨r, j, rfl⟩ : ∃ (r : Fin 20000) (j : Fin 320), i = ix2 r j := ⟨i 0, i 1, eq_ix2 i⟩
  pointwise [lin]

end Cert.ReferenceIdeal.Heads

end
-- ==== Proof.lean ====
/- The proof of the certificate's five claims: each of the three programs ends every fair run with its arguments
   unchanged and its counters at zero; the kernel on the extended reals is the kernel with no operation replaced; and on
   the extended reals the kernel and the reference give the same two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as written for bit patterns: every fair run ends, with the arguments unchanged and every counter at zero. -/
theorem frame_kernel : Cert.quiescent_Kernel := fun m ρ _ => Cert.Kernel.Gen.frame m ρ

/-- The kernel on the extended reals: every fair run ends, with the arguments unchanged and every counter at zero. -/
theorem frame_ideal : Cert.quiescent_KernelIdeal := fun m ρ _ => Cert.KernelIdeal.Gen.frame m ρ

/-- The reference: every fair run ends, with the arguments unchanged; it has no counter. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel on the extended reals is the kernel with no operation replaced, so there is nothing to relate. -/
theorem preserves : Cert.preserves_Kernel_KernelIdeal := trivial

/-- On the extended reals the kernel and the reference end with the same scores and the same deltas, whatever the five
    arguments hold. -/
theorem value : Cert.algebraic_KernelIdeal_ReferenceIdeal := by
  intro m g m' g' _ hagree
  refine ⟨Cert.KernelIdeal.Heads.scores m, Cert.KernelIdeal.Heads.deltas m, Cert.KernelIdeal.Heads.run m g, ?_⟩
  refine (θ_run Cert.ReferenceIdeal.defs _ _).mono (fun r h c => ?_) (Cert.ReferenceIdeal.Value.run (F := Ideal) m' g')
  obtain ⟨a0, a1, a2, a3, a4⟩ := hagree c
  refine ⟨(h c).1.trans ?_, (h c).2.1.trans ?_, (h c).2.2⟩
  · rw [a0, a1, a2]
    exact Cert.ReferenceIdeal.Heads.scores_eq _ _ _
  · rw [a0, a3, a4]
    exact Cert.ReferenceIdeal.Heads.deltas_eq _ _ _

/-- All five claims. -/
theorem claim : Cert.Claim := ⟨Cert.Kernel.Gen.facts, Cert.KernelIdeal.Gen.facts, Cert.ReferenceIdeal.Gen.facts,
  frame_kernel, frame_ideal, frame_reference, preserves, value⟩

end Cert.Proof

end
